-- ==== Defs.lean ====
def Pre_Kernel [hPre_in_range : Cert.Pre_in_range.Facts] (m : (ℓ : Loc Cert.Kernel.nD Cert.Kernel.τ Cert.Kernel.sig) → Buf (Elt Bits) ℓ) : Prop :=
  ∀ c : Dev Cert.Kernel.nD,
    (Cert.Pre_in_range.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] [hPre_in_range : Cert.Pre_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_in_range [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_in_range : Cert.Pre_in_range.Facts),
    quiescent_Kernel (hKernel := hKernel) (hPre_in_range := hPre_in_range)
    ∧ quiescent_KernelIdeal (hKernelIdeal := hKernelIdeal) (hPre_in_range := hPre_in_range)
    ∧ quiescent_ReferenceIdeal (hReferenceIdeal := hReferenceIdeal)
    ∧ quiescent_ReferenceIdeal_pre_in_range (hReferenceIdeal := hReferenceIdeal) (hPre_in_range := hPre_in_range)
    ∧ preserves_Kernel_KernelIdeal
    ∧ algebraic_KernelIdeal_ReferenceIdeal (hKernelIdeal := hKernelIdeal) (hReferenceIdeal := hReferenceIdeal) (hPre_in_range := hPre_in_range)
-- ==== Pre_in_range.lean ====
abbrev S128x32768 : Shape := ⟨2, ![128, 32768]⟩
abbrev S_ : Shape := ⟨0, ![]⟩

class Facts : Prop where
  bcast_S_S128x32768 : S_.BroadcastsInDim S128x32768 (![] : Fin 0 → Fin S128x32768.rank)
  reducesTo_S128x32768_S_d0_1 : S128x32768.ReducesTo [0, 1] S_
  h_S_ : 0 < S_.numel

variable [Facts]

def fn {F : FTy → Type} [FloatOps F] (main_arg0 : FVec F S128x32768 .f32) (main_arg1 : IVec S128x32768 32) : IVec S_ 1 :=
  let main_c : IVec S_ 32 := constantI S_ 32 0#32
  let main_v0 : IVec S128x32768 32 := broadcastInDim S128x32768 ![] bcast_S_S128x32768 main_c
  let main_v1 : IVec S128x32768 1 := cmpi .sge main_arg1 main_v0
  let main_c_0 : IVec S_ 32 := constantI S_ 32 32768#32
  let main_v2 : IVec S128x32768 32 := broadcastInDim S128x32768 ![] bcast_S_S128x32768 main_c_0
  let main_v3 : IVec S128x32768 1 := cmpi .slt main_arg1 main_v2
  let main_v4 : IVec S128x32768 1 := andi main_v1 main_v3
  let main_c_1 : IVec S_ 1 := constantI S_ 1 1#1
  let main_v5 : IVec S_ 1 := (fun x v => Host.reduce IntOp.andi x v reducesTo_S128x32768_S_d0_1 h_S_) main_v4 main_c_1
  main_v5
-- ==== Kernel.lean ====
abbrev S128x32768 : Shape := ⟨2, ![128, 32768]⟩
abbrev S32768 : Shape := ⟨1, ![32768]⟩
abbrev S_ : Shape := ⟨0, ![]⟩
abbrev S1x32768 : Shape := ⟨2, ![1, 32768]⟩
abbrev S16 : Shape := ⟨1, ![16]⟩

abbrev nBuf : Table → Nat
  | .hbm => 3
  | .local .scVector .vmem => 3
  | _ => 0

abbrev bufTy : (tb : Table) → Fin (nBuf tb) → BufTy
  | .hbm, ⟨0, _⟩ => ⟨S128x32768, .f32⟩
  | .hbm, ⟨1, _⟩ => ⟨S128x32768, .i32⟩
  | .hbm, ⟨2, _⟩ => ⟨S128x32768, .f32⟩
  | .local .scVector .vmem, ⟨0, _⟩ => ⟨S32768, .f32⟩
  | .local .scVector .vmem, ⟨1, _⟩ => ⟨S32768, .i32⟩
  | .local .scVector .vmem, ⟨2, _⟩ => ⟨S32768, .f32⟩
  | _, _ => ⟨S128x32768, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 12 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => false
  | ⟨9, _⟩ => false
  | ⟨10, _⟩ => false
  | ⟨11, _⟩ => false
  | _ => false

abbrev sig : RefSig :=
  ofTables nBuf rfl bufTy 4 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_arg0_scv : Ref sig .scVector := ⟨.hbm, 0, rfl⟩
abbrev main_arg1_scv : Ref sig .scVector := ⟨.hbm, 1, rfl⟩
abbrev main_v0_scv : Ref sig .scVector := ⟨.hbm, 2, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) (c0_i32 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32 : BitVec 32 := 4#32
  let v2 : BitVec 32 := Scalar.muli v1 c4_i32
  let v3 : BitVec 32 := Scalar.addi v2 c0_i32
  let c0_i32_19_r0 : BitVec 32 := 0#32
  ![v3.toNat, 0]
@[reducible] def k0_t1_loop : Scf.Loop 32 :=
  let c0_i32_0 : BitVec 32 := 0#32
  let c2048_i32 : BitVec 32 := 2048#32
  let v4 : BitVec 32 := Scalar.addi c0_i32_0 c2048_i32
  let c1_i32 : BitVec 32 := 1#32
  ⟨c0_i32_0, v4, c1_i32⟩
def k0_off2 (k0_t1 : Fin k0_t1_loop.trips) : Fin 1 → Nat :=
  let c0_i32_20 : BitVec 32 := 0#32
  let c0_i32_0 : BitVec 32 := 0#32
  let c1_i32 : BitVec 32 := 1#32
  let arg8 : BitVec 32 := Scf.iv c0_i32_0 c1_i32 k0_t1
  let c1_i32_19 : BitVec 32 := 1#32
  let v14 : BitVec 32 := Scalar.muli arg8 c1_i32_19
  let v15 : BitVec 32 := Scalar.addi c0_i32_20 v14
  let c16_i32 : BitVec 32 := 16#32
  let v16 : BitVec 32 := Scalar.muli v15 c16_i32
  let v17 : Index := Scalar.indexCast v16
  ![v17.toNat]

def k0_chk1 (v18 : IVec S16 32) : Prop :=
  (∀ a x, ((![v18] : Fin 1 → IVec S16 32) a x).toNat < S32768.size a)
theorem k0_idx1_inb : ∀ (v18 : IVec S16 32) (k0_hw1 : k0_chk1 v18), ∀ a x, ((![v18] : Fin 1 → IVec S16 32) a x).toNat < S32768.size a := fun v18 k0_hw1 => k0_hw1
def k0_off3 (k0_t1 : Fin k0_t1_loop.trips) : Fin 1 → Nat :=
  let c0_i32_20 : BitVec 32 := 0#32
  let c0_i32_0 : BitVec 32 := 0#32
  let c1_i32 : BitVec 32 := 1#32
  let arg8 : BitVec 32 := Scf.iv c0_i32_0 c1_i32 k0_t1
  let c1_i32_19 : BitVec 32 := 1#32
  let v14 : BitVec 32 := Scalar.muli arg8 c1_i32_19
  let v15 : BitVec 32 := Scalar.addi c0_i32_20 v14
  let c16_i32_21 : BitVec 32 := 16#32
  let v20 : BitVec 32 := Scalar.muli v15 c16_i32_21
  let v21 : Index := Scalar.indexCast v20
  ![v21.toNat]
@[reducible] def k0_t2_loop : Scf.Loop 32 :=
  let c0_i32_4 : BitVec 32 := 0#32
  let c2048_i32_5 : BitVec 32 := 2048#32
  let v7 : BitVec 32 := Scalar.addi c0_i32_4 c2048_i32_5
  let c1_i32_6 : BitVec 32 := 1#32
  ⟨c0_i32_4, v7, c1_i32_6⟩
def k0_off4 (k0_t2 : Fin k0_t2_loop.trips) : Fin 1 → Nat :=
  let c0_i32_20 : BitVec 32 := 0#32
  let c0_i32_4 : BitVec 32 := 0#32
  let c1_i32_6 : BitVec 32 := 1#32
  let arg8 : BitVec 32 := Scf.iv c0_i32_4 c1_i32_6 k0_t2
  let c1_i32_19 : BitVec 32 := 1#32
  let v14 : BitVec 32 := Scalar.muli arg8 c1_i32_19
  let v15 : BitVec 32 := Scalar.addi c0_i32_20 v14
  let c16_i32 : BitVec 32 := 16#32
  let v16 : BitVec 32 := Scalar.muli v15 c16_i32
  let v17 : Index := Scalar.indexCast v16
  ![v17.toNat]

def k0_chk2 (v18 : IVec S16 32) : Prop :=
  (∀ a x, ((![v18] : Fin 1 → IVec S16 32) a x).toNat < S32768.size a)
theorem k0_idx2_inb : ∀ (v18 : IVec S16 32) (k0_hw2 : k0_chk2 v18), ∀ a x, ((![v18] : Fin 1 → IVec S16 32) a x).toNat < S32768.size a := fun v18 k0_hw2 => k0_hw2
def k0_off5 (k0_t2 : Fin k0_t2_loop.trips) : Fin 1 → Nat :=
  let c0_i32_20 : BitVec 32 := 0#32
  let c0_i32_4 : BitVec 32 := 0#32
  let c1_i32_6 : BitVec 32 := 1#32
  let arg8 : BitVec 32 := Scf.iv c0_i32_4 c1_i32_6 k0_t2
  let c1_i32_19 : BitVec 32 := 1#32
  let v14 : BitVec 32 := Scalar.muli arg8 c1_i32_19
  let v15 : BitVec 32 := Scalar.addi c0_i32_20 v14
  let c16_i32_21 : BitVec 32 := 16#32
  let v20 : BitVec 32 := Scalar.muli v15 c16_i32_21
  let v21 : Index := Scalar.indexCast v20
  ![v21.toNat]
@[reducible] def k0_t3_loop : Scf.Loop 32 :=
  let c0_i32_10 : BitVec 32 := 0#32
  let c2048_i32_11 : BitVec 32 := 2048#32
  let v10 : BitVec 32 := Scalar.addi c0_i32_10 c2048_i32_11
  let c1_i32_12 : BitVec 32 := 1#32
  ⟨c0_i32_10, v10, c1_i32_12⟩
def k0_off6 (k0_t3 : Fin k0_t3_loop.trips) : Fin 1 → Nat :=
  let c0_i32_20 : BitVec 32 := 0#32
  let c0_i32_10 : BitVec 32 := 0#32
  let c1_i32_12 : BitVec 32 := 1#32
  let arg8 : BitVec 32 := Scf.iv c0_i32_10 c1_i32_12 k0_t3
  let c1_i32_19 : BitVec 32 := 1#32
  let v14 : BitVec 32 := Scalar.muli arg8 c1_i32_19
  let v15 : BitVec 32 := Scalar.addi c0_i32_20 v14
  let c16_i32 : BitVec 32 := 16#32
  let v16 : BitVec 32 := Scalar.muli v15 c16_i32
  let v17 : Index := Scalar.indexCast v16
  ![v17.toNat]

def k0_chk3 (v18 : IVec S16 32) : Prop :=
  (∀ a x, ((![v18] : Fin 1 → IVec S16 32) a x).toNat < S32768.size a)
theorem k0_idx3_inb : ∀ (v18 : IVec S16 32) (k0_hw3 : k0_chk3 v18), ∀ a x, ((![v18] : Fin 1 → IVec S16 32) a x).toNat < S32768.size a := fun v18 k0_hw3 => k0_hw3
def k0_off7 (k0_t3 : Fin k0_t3_loop.trips) : Fin 1 → Nat :=
  let c0_i32_20 : BitVec 32 := 0#32
  let c0_i32_10 : BitVec 32 := 0#32
  let c1_i32_12 : BitVec 32 := 1#32
  let arg8 : BitVec 32 := Scf.iv c0_i32_10 c1_i32_12 k0_t3
  let c1_i32_19 : BitVec 32 := 1#32
  let v14 : BitVec 32 := Scalar.muli arg8 c1_i32_19
  let v15 : BitVec 32 := Scalar.addi c0_i32_20 v14
  let c16_i32_21 : BitVec 32 := 16#32
  let v20 : BitVec 32 := Scalar.muli v15 c16_i32_21
  let v21 : Index := Scalar.indexCast v20
  ![v21.toNat]
@[reducible] def k0_t4_loop : Scf.Loop 32 :=
  let c0_i32_15 : BitVec 32 := 0#32
  let c2048_i32_16 : BitVec 32 := 2048#32
  let v13 : BitVec 32 := Scalar.addi c0_i32_15 c2048_i32_16
  let c1_i32_17 : BitVec 32 := 1#32
  ⟨c0_i32_15, v13, c1_i32_17⟩
def k0_off8 (k0_t4 : Fin k0_t4_loop.trips) : Fin 1 → Nat :=
  let c0_i32_20 : BitVec 32 := 0#32
  let c0_i32_15 : BitVec 32 := 0#32
  let c1_i32_17 : BitVec 32 := 1#32
  let arg8 : BitVec 32 := Scf.iv c0_i32_15 c1_i32_17 k0_t4
  let c1_i32_19 : BitVec 32 := 1#32
  let v14 : BitVec 32 := Scalar.muli arg8 c1_i32_19
  let v15 : BitVec 32 := Scalar.addi c0_i32_20 v14
  let c16_i32 : BitVec 32 := 16#32
  let v16 : BitVec 32 := Scalar.muli v15 c16_i32
  let v17 : Index := Scalar.indexCast v16
  ![v17.toNat]

def k0_chk4 (v18 : IVec S16 32) : Prop :=
  (∀ a x, ((![v18] : Fin 1 → IVec S16 32) a x).toNat < S32768.size a)
theorem k0_idx4_inb : ∀ (v18 : IVec S16 32) (k0_hw4 : k0_chk4 v18), ∀ a x, ((![v18] : Fin 1 → IVec S16 32) a x).toNat < S32768.size a := fun v18 k0_hw4 => k0_hw4
def k0_off9 (k0_t4 : Fin k0_t4_loop.trips) : Fin 1 → Nat :=
  let c0_i32_20 : BitVec 32 := 0#32
  let c0_i32_15 : BitVec 32 := 0#32
  let c1_i32_17 : BitVec 32 := 1#32
  let arg8 : BitVec 32 := Scf.iv c0_i32_15 c1_i32_17 k0_t4
  let c1_i32_19 : BitVec 32 := 1#32
  let v14 : BitVec 32 := Scalar.muli arg8 c1_i32_19
  let v15 : BitVec 32 := Scalar.addi c0_i32_20 v14
  let c16_i32_21 : BitVec 32 := 16#32
  let v20 : BitVec 32 := Scalar.muli v15 c16_i32_21
  let v21 : Index := Scalar.indexCast v20
  ![v21.toNat]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S128x32768 : Shape := ⟨2, ![128, 32768]⟩
abbrev S_ : Shape := ⟨0, ![]⟩
abbrev S128x32768x1 : Shape := ⟨3, ![128, 32768, 1]⟩
abbrev S1 : Shape := ⟨1, ![1]⟩
abbrev S1x1x1 : Shape := ⟨3, ![1, 1, 1]⟩

abbrev nBuf : Space → Nat
  | .hbm => 24
  | .vmem => 0
  | .smem => 0
  | _ => 0

abbrev bufTy : (tb : Table) → Fin (tcTables nBuf tb) → BufTy
  | .hbm, ⟨0, _⟩ => ⟨S128x32768, .f32⟩
  | .hbm, ⟨1, _⟩ => ⟨S128x32768, .i32⟩
  | .hbm, ⟨2, _⟩ => ⟨S_, .i32⟩
  | .hbm, ⟨3, _⟩ => ⟨S128x32768, .i32⟩
  | .hbm, ⟨4, _⟩ => ⟨S128x32768, .i1⟩
  | .hbm, ⟨5, _⟩ => ⟨S_, .i32⟩
  | .hbm, ⟨6, _⟩ => ⟨S128x32768, .i32⟩
  | .hbm, ⟨7, _⟩ => ⟨S128x32768, .i32⟩
  | .hbm, ⟨8, _⟩ => ⟨S128x32768, .i32⟩
  | .hbm, ⟨9, _⟩ => ⟨S128x32768x1, .i32⟩
  | .hbm, ⟨10, _⟩ => ⟨S1, .i32⟩
  | .hbm, ⟨11, _⟩ => ⟨S_, .i32⟩
  | .hbm, ⟨12, _⟩ => ⟨S128x32768x1, .i32⟩
  | .hbm, ⟨13, _⟩ => ⟨S128x32768x1, .i1⟩
  | .hbm, ⟨14, _⟩ => ⟨S1x1x1, .i32⟩
  | .hbm, ⟨15, _⟩ => ⟨S128x32768x1, .i32⟩
  | .hbm, ⟨16, _⟩ => ⟨S128x32768x1, .i1⟩
  | .hbm, ⟨17, _⟩ => ⟨S128x32768x1, .i1⟩
  | .hbm, ⟨18, _⟩ => ⟨S_, .i1⟩
  | .hbm, ⟨19, _⟩ => ⟨S128x32768, .i1⟩
  | .hbm, ⟨20, _⟩ => ⟨S128x32768, .f32⟩
  | .hbm, ⟨21, _⟩ => ⟨S_, .f32⟩
  | .hbm, ⟨22, _⟩ => ⟨S128x32768, .f32⟩
  | .hbm, ⟨23, _⟩ => ⟨S128x32768, .f32⟩
  | _, _ => ⟨S128x32768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_c : Ref sig .tc := ⟨.hbm, 2, rfl⟩
abbrev main_call0_v0 : Ref sig .tc := ⟨.hbm, 3, rfl⟩
abbrev main_call0_v1 : Ref sig .tc := ⟨.hbm, 4, rfl⟩
abbrev main_call0_c_0 : Ref sig .tc := ⟨.hbm, 5, rfl⟩
abbrev main_call0_v2 : Ref sig .tc := ⟨.hbm, 6, rfl⟩
abbrev main_call0_v3 : Ref sig .tc := ⟨.hbm, 7, rfl⟩
abbrev main_call0_v4 : Ref sig .tc := ⟨.hbm, 8, rfl⟩
abbrev main_call0_v5 : Ref sig .tc := ⟨.hbm, 9, rfl⟩
abbrev main_call0_c_1 : Ref sig .tc := ⟨.hbm, 10, rfl⟩
abbrev main_call0_c_2 : Ref sig .tc := ⟨.hbm, 11, rfl⟩
abbrev main_call0_v6 : Ref sig .tc := ⟨.hbm, 12, rfl⟩
abbrev main_call0_v7 : Ref sig .tc := ⟨.hbm, 13, rfl⟩
abbrev main_call0_v8 : Ref sig .tc := ⟨.hbm, 14, rfl⟩
abbrev main_call0_v9 : Ref sig .tc := ⟨.hbm, 15, rfl⟩
abbrev main_call0_v10 : Ref sig .tc := ⟨.hbm, 16, rfl⟩
abbrev main_call0_v11 : Ref sig .tc := ⟨.hbm, 17, rfl⟩
abbrev main_call0_c_3 : Ref sig .tc := ⟨.hbm, 18, rfl⟩
abbrev main_call0_v12 : Ref sig .tc := ⟨.hbm, 19, rfl⟩
abbrev main_call0_v13 : Ref sig .tc := ⟨.hbm, 20, rfl⟩
abbrev main_call0_cst : Ref sig .tc := ⟨.hbm, 21, rfl⟩
abbrev main_call0_v14 : Ref sig .tc := ⟨.hbm, 22, rfl⟩
abbrev main_v0 : Ref sig .tc := ⟨.hbm, 23, rfl⟩

abbrev nD : Nat := 1
abbrev τ : Topo := Topo.v7x

variable {F : FTy → Type} [FloatOps F]
-- ==== Proof.Program.lean ====
/-
  The kernel's program, cut at its rows. A task of the kernel handles four rows of the arrays one after another: for each
  it fetches the row of the table and the row of the indices, gathers sixteen elements at a time for 2048 trips, and writes
  the gathered row out. `tripProg` is one trip and `rowProg` one row, written once; `body_eq` says that the printed body
  is `rowProg` at rows 0, 1, 2 and 3 in turn.
-/
module

public import proofs.«01_k».proof.Defs
public import proofs.«01_k».proof.Proof.Gen.KernelIdeal
public import proofs.«01_k».proof.Proof.Gen.KernelIdeal.Skeleton

@[expose] public section

noncomputable section

namespace Cert.Proof.Rows

open Cert.KernelIdeal Cert.KernelIdeal.Gen
open Idealize.ShloMosaic Idealize.SL.Sem

variable {F : FTy → Type} [FloatOps F]

/-! ## The arrays as a task addresses them -/

/-- The table of 128 rows that the kernel gathers from. -/
abbrev xM : Memref sig .scVector .hbm S128x32768 .f32 := Memref.whole main_arg0_scv
/-- The indices, a row of them for every row of the table. -/
abbrev iM : Memref sig .scVector .hbm S128x32768 .i32 := Memref.whole main_arg1_scv
/-- The result. -/
abbrev oM : Memref sig .scVector .hbm S128x32768 .f32 := Memref.whole main_v0_scv
/-- A subcore's copy of one row of the table. -/
abbrev xB : Memref sig .scVector .vmem S32768 .f32 := Memref.whole cc0_scratch0
/-- A subcore's copy of one row of indices. -/
abbrev iB : Memref sig .scVector .vmem S32768 .i32 := Memref.whole cc0_scratch1
/-- The row a subcore is gathering. -/
abbrev oB : Memref sig .scVector .vmem S32768 .f32 := Memref.whole cc0_scratch2

/-- The `r`-th of the four rows that the task at `L` handles, as a rectangle of an array. -/
abbrev rowRect (L : grid0.Coords) (r : Fin 4) : Rect S128x32768 :=
  Rect.unit (s := S128x32768) (k0_off1 L (BitVec.ofNat 32 r.val)) S1x32768.size (k0_off1_inb L r)

/-- That row of an array, as a vector of 32768 elements. -/
abbrev rowOf {e : EltTy} (a : Memref sig .scVector .hbm S128x32768 e) (L : grid0.Coords) (r : Fin 4) :
    Memref sig .scVector .hbm S32768 e :=
  (a.slice (rowRect L r) (fun _ => rfl)).squeeze S32768 squeezes_S1x32768_S32768

/-! ## One trip and one row -/

/-- One trip: the sixteen indices of chunk `k`, checked to lie inside the row, the sixteen elements of the row at them, and
    their store into chunk `k` of the gathered row. -/
def tripProg (L : grid0.Coords) (k : Fin k0_t1_loop.trips) :
    Prog (TpuEff nD τ sig (Elt F) Λ₀ (.scVector ((L 0).castLE hcore0) ((L 1).castLE hsub0))) Unit := do
  let w : Vec F S16 .i32 ←
    Prog.lift (.load iB (Rect.unit (s := S32768) (k0_off2 k) S16.size (k0_off2_inb k)).toLoadRect (View.loadsAt_vmem h_S16))
  have hw : k0_chk1 w := (← Prog.lift (TpuEff.assume (k0_chk1 w) (k0_chk1.dec w))).down
  let g : Vec F S16 .f32 ← SparseCore.vectorLoadIdx xB ![w] (k0_idx1_inb w hw) (View.loads_vmem h_S32768)
  let _old : Vec F S16 .f32 ←
    Prog.lift (.load oB (Rect.unit (s := S32768) (k0_off3 k) S16.size (k0_off3_inb k)).toLoadRect (View.loadsAt_vmem h_S16))
  Prog.lift (.store oB (Rect.unit (s := S32768) (k0_off3 k) S16.size (k0_off3_inb k)) g Finset.univ
    (View.stores_vmem_bits_univ h_S16 rfl) (.inl rfl))
  pure ⟨⟩

/-- One row: the two fetches, each awaited, the trips, and the write-out, awaited. -/
def rowProg (L : grid0.Coords) (r : Fin 4) (s₀ s₁ s₂ : DmaSems sig S_) :
    Prog (TpuEff nD τ sig (Elt F) Λ₀ (.scVector ((L 0).castLE hcore0) ((L 1).castLE hsub0))) PUnit := do
  Prog.lift (.enqueueDma (rowOf xM L r) (.here xB) (.dma s₀.sem) ((View.wordExact_bits rfl).reshape _ _)
    (Memref.isWhole_whole _).wordExact ⟨Or.inl rfl, trivial⟩)
  Prog.lift (.waitDma2 s₀.sem (rowOf xM L r) xB ((View.wordExact_bits rfl).reshape _ _) (Memref.isWhole_whole _).wordExact)
  Prog.lift (.enqueueDma (rowOf iM L r) (.here iB) (.dma s₁.sem) ((View.wordExact_bits rfl).reshape _ _)
    (Memref.isWhole_whole _).wordExact ⟨Or.inl rfl, trivial⟩)
  Prog.lift (.waitDma2 s₁.sem (rowOf iM L r) iB ((View.wordExact_bits rfl).reshape _ _) (Memref.isWhole_whole _).wordExact)
  Scf.Loop.for k0_t1_loop k0_t1_ok ⟨⟩ (fun k _ => tripProg L k)
  Prog.lift (.enqueueDma oB (.here (rowOf oM L r)) (.dma s₂.sem) (Memref.isWhole_whole _).wordExact
    ((View.wordExact_bits rfl).reshape _ _) ⟨Or.inl rfl, trivial⟩)
  Prog.lift (.waitDma2 s₂.sem oB (rowOf oM L r) (Memref.isWhole_whole _).wordExact ((View.wordExact_bits rfl).reshape _ _))

/-- The kernel's body as it is launched: over the whole arrays, the subcore's three buffers and its twelve semaphores. -/
abbrev bodyProg (L : grid0.Coords) :
    Prog (TpuEff nD τ sig (Elt F) Λ₀ (.scVector ((L 0).castLE hcore0) ((L 1).castLE hsub0))) PUnit :=
  cc0__gather_body L xM (Memref.isWhole_whole _) iM (Memref.isWhole_whole _) oM (Memref.isWhole_whole _)
    xB (Memref.isWhole_whole _) iB (Memref.isWhole_whole _) oB (Memref.isWhole_whole _)
    cc0_scoped0 cc0_scoped1 cc0_scoped2 cc0_scoped3 cc0_scoped4 cc0_scoped5 cc0_scoped6 cc0_scoped7 cc0_scoped8
    cc0_scoped9 cc0_scoped10 cc0_scoped11

set_option maxRecDepth 65536 in
/-- The printed body is its four rows, one after another. -/
theorem body_eq (L : grid0.Coords) :
    bodyProg (F := F) L = (do
      rowProg L 0 cc0_scoped0 cc0_scoped1 cc0_scoped2
      rowProg L 1 cc0_scoped3 cc0_scoped4 cc0_scoped5
      rowProg L 2 cc0_scoped6 cc0_scoped7 cc0_scoped8
      rowProg L 3 cc0_scoped9 cc0_scoped10 cc0_scoped11) := by
  unfold bodyProg
  simp only [cc0__gather_body_eq_skeleton, k0_part1_eq_skeleton, k0_part2_eq_skeleton, k0_part3_eq_skeleton]
  unfold cc0__gather_body_skel
  simp only [k0_part1_eq_skeleton, k0_part2_eq_skeleton, k0_part3_eq_skeleton]
  unfold k0_part1_skel k0_part2_skel k0_part3_skel rowProg
  simp only [bind_assoc, pure_bind, bind_pure]
  rfl

end Cert.Proof.Rows

end
-- ==== Proof.Setup.lean ====
/-
  The launch's vocabulary: the program's one SparseCore call as the launch theorem reads it, the ghost state of its
  handshakes and transfers, the arrays in the launch memory, and what is asked of the indices.
-/
module

public import proofs.«01_k».proof.Proof.Program
public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.Tactic
public import Idealize.ShloMosaic.Lib.Pointwise

@[expose] public section

noncomputable section

namespace Cert.Proof.Rows

open Cert.KernelIdeal Cert.KernelIdeal.Gen
open Idealize.ShloMosaic
open Idealize.ShloMosaic.SparseCore (V T)
open Idealize.ShloMosaic.SparseCore.Cfg (HIx)
open Idealize.SL Idealize.SL.RA Idealize.SL.BI
open Idealize.SL.Sem
open Idealize.ShloMosaic.Rounds

variable {F : FTy → Type}

/-! ## The program as the launch theorem sees it -/

/-- The labels of the program with its pipelines, of which it has none. -/
abbrev ΛP : Labels := Pipeline.Sig Λ₀ (Fin 0) fun p => (pcfgs (F := F) p).Adm
/-- The one SparseCore call. -/
abbrev K : SparseCore.Cfg τ sig (ΛP (F := F)) 1 := sc (F := F)
/-- The program's definitions, lifted to those labels. -/
abbrev D [FloatOps F] : Defs nD τ sig (Elt F) (ΛP (F := F)) := Pipeline.defs pcfgs defs₀
/-- No variants: no loop of the program needs one. -/
abbrev 𝒱₀ : Variants := Variants.none
/-- Those, lifted. -/
abbrev 𝒱 : Variants := 𝒱₀.lift
/-- The variant of every step. -/
abbrev v₀ : 𝒱.V := Sum.inl none

/-- The side conditions of the launch theorem on the call's semaphores and buffers. -/
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide,
    show (SemLoc.reg sc_go : SemLoc sig).isScoped .scVector = false by decide,
    show (SemLoc.reg sc_done : SemLoc sig).isScoped .tc = false by decide,
    show ∀ (b : DevRef τ sig) (c : Fin τ.nSC), b.owner = .sc c → sig.taskShared b.table b.idx = false by decide,
    fun _ => rfl⟩

/-! ## The ghost state -/

/-- The handshakes' rounds. -/
abbrev UH : Type := URounds (GSem nD τ sig) ℕ
/-- Those and the transfers' counters. -/
abbrev UU : Type := UH × Counters

/-- The resources the proof's assertions are about. -/
abbrev MM (F : FTy → Type) : Type := MT nD τ sig (HIx 1) (Elt F) ℕ UU ℕ

/-- Where the handshakes' ghost state lies. -/
abbrev EH : Emb UH (MM F) := embL

/-! ## The arrays -/

/-- The table on device `d`. -/
abbrev xLoc (d : Dev nD) : Loc nD τ sig := (SparseCore.T d).loc main_arg0
/-- The indices on device `d`. -/
abbrev iLoc (d : Dev nD) : Loc nD τ sig := (SparseCore.T d).loc main_arg1
/-- The result on device `d`. -/
abbrev oLoc (d : Dev nD) : Loc nD τ sig := (SparseCore.T d).loc main_v0

/-- The SparseCore and the subcore a task at `L` runs on. -/
abbrev cV (L : grid0.Coords) : Fin τ.nSC := (L 0).castLE hcore0
/-- The subcore that a tile's coordinates name. -/
abbrev jV (L : grid0.Coords) : Fin τ.nSub := (L 1).castLE hsub0
/-- The thread of the task at `L` on device `d`. -/
abbrev thr (d : Dev nD) (L : grid0.Coords) : Thread nD τ := V d (cV L) (jV L)

variable (m : (ℓ : Loc nD τ sig) → Buf (Elt F) ℓ)

/-- What the proof asks of the launch memory: every index is below 32768, so names an element of a row. -/
def PreOK : Prop := ∀ (d : Dev nD) (p : S128x32768.Idx), (m (iLoc d) p).toNat < 32768

end Cert.Proof.Rows

end
-- ==== Proof.Values.lean ====
/-
  The values: what the result holds element by element, what a row of an array is as a vector, and what one trip leaves in
  the row being gathered.
-/
module

public import proofs.«01_k».proof.Proof.Setup

@[expose] public section

noncomputable section

namespace Cert.Proof.Rows

open Cert.KernelIdeal Cert.KernelIdeal.Gen
open Idealize.ShloMosaic Idealize.SL.Sem

variable {F : FTy → Type}

/-- The position in a row that an index word names. -/
def pos (w : BitVec 32) : Fin 32768 := Fin.ofNat 32768 w.toNat

/-- An array gathered along its rows: element `(r, j)` is the table's at row `r` and the position index `(r, j)` names. -/
def gathered {α : Type} (x : S128x32768.Idx → α) (w : S128x32768.Idx → BitVec 32) : S128x32768.Idx → α :=
  fun p => x (ix2 (p 0) (pos (w p)))

/-- One row gathered. -/
def rowGathered {α : Type} (x : S32768.Idx → α) (w : S32768.Idx → BitVec 32) : S32768.Idx → α :=
  fun j => x (ix1 (pos (w j)))

/-- Row `r` of an array. -/
def row {α : Type} (x : S128x32768.Idx → α) (r : Fin 128) : S32768.Idx → α := fun j => x (ix2 r (j 0))

/-- Gathering commutes with taking a row. -/
theorem row_gathered {α : Type} (x : S128x32768.Idx → α) (w : S128x32768.Idx → BitVec 32) (r : Fin 128) :
    row (gathered x w) r = rowGathered (row x r) (row w r) := rfl

/-- The number of the `r`-th row that the task at `L` handles. -/
def rowNo (L : grid0.Coords) (r : Fin 4) : Fin 128 :=
  ⟨8 * (L 1).val + 4 * (L 0).val + r.val, by
    have h0 : (L 0).val < 2 := (L 0).isLt
    have h1 : (L 1).val < 16 := (L 1).isLt
    omega⟩

/-- Element `j` of a task's row of an array is the array's element at that row and column `j`. -/
theorem emb_rowRect (L : grid0.Coords) (r : Fin 4) (j : S32768.Idx) :
    (rowRect L r).emb (Shape.reshapeEquiv squeezes_S1x32768_S32768.numel_eq j) = ix2 (rowNo L r) (j 0) := by
  have e : Shape.reshapeEquiv (s := S1x32768) (s' := S32768) squeezes_S1x32768_S32768.numel_eq j = (ix2 0 (j 0) : S1x32768.Idx) := by
    simp only [pointwise]
  rw [e]
  funext a
  apply Fin.ext
  have := k0_off1_eq L r
  match a with
  | 0 => simp [this, rowNo]
  | 1 => simp [this]

/-- Read through a task's row, the table gives that row. -/
theorem read_rowOf_x (L : grid0.Coords) (r : Fin 4) (f : S128x32768.Idx → Elt F .f32) :
    (rowOf xM L r).view.read (Elt F) f = row f (rowNo L r) := by
  funext j
  refine (View.read_apply _ _).trans ((cast_eq _ _).trans ?_)
  exact congrArg f (emb_rowRect L r j)

/-- Read through a task's row, the indices give that row. -/
theorem read_rowOf_i (L : grid0.Coords) (r : Fin 4) (f : S128x32768.Idx → Elt F .i32) :
    (rowOf iM L r).view.read (Elt F) f = row f (rowNo L r) := by
  funext j
  refine (View.read_apply _ _).trans ((cast_eq _ _).trans ?_)
  exact congrArg f (emb_rowRect L r j)

/-- Row `n` of `g` written through a task's row makes the result agree with `g` on that row. -/
theorem write_rowOf_o (L : grid0.Coords) (r : Fin 4) (f g : S128x32768.Idx → Elt F .f32) :
    ∀ p ∈ (rowOf oM L r).view.set,
      (rowOf oM L r).view.writes (Elt F) f [⟨Rect.whole S32768, row g (rowNo L r)⟩] p = g p := by
  intro p hp
  obtain ⟨j, -, rfl⟩ := Finset.mem_map.mp hp
  have e : ((rowOf oM L r).view.slice (Rect.whole S32768)).emb j = (rowOf oM L r).view.emb j :=
    congrArg (rowOf oM L r).view.emb (Rect.emb_whole_apply S32768 j)
  show ((rowOf oM L r).view.slice (Rect.whole S32768)).write (Elt F) f (row g (rowNo L r)) Finset.univ _ = _
  rw [← e, View.write_emb_of_mem _ _ (Finset.mem_univ j), e]
  refine (cast_eq _ _).trans ?_
  exact congrArg g (emb_rowRect L r j).symm

/-! ## One trip -/

/-- What holds of the row being gathered before trip `k`: its first `16 * k` elements are the gathered row's. -/
def Upto (x : S32768.Idx → Elt F .f32) (w : S32768.Idx → Elt F .i32) (k : ℕ) (f : S32768.Idx → Elt F .f32) : Prop :=
  ∀ j : S32768.Idx, (j 0).val < 16 * k → f j = rowGathered x w j

/-- Chunk `k` of a row: the sixteen elements trip `k` loads indices from and stores to. -/
abbrev chunkI (k : Fin k0_t1_loop.trips) : Rect S32768 := Rect.unit (s := S32768) (k0_off2 k) S16.size (k0_off2_inb k)
/-- The sixteen places that trip `k` stores. -/
abbrev chunkO (k : Fin k0_t1_loop.trips) : Rect S32768 := Rect.unit (s := S32768) (k0_off3 k) S16.size (k0_off3_inb k)

/-- Element `l` of chunk `k` is element `16 * k + l` of the row. -/
theorem emb_chunkI (k : Fin k0_t1_loop.trips) (l : S16.Idx) : ((chunkI k).emb l 0).val = 16 * k.val + (l 0).val := by
  simp [k0_off2_eq k]
/-- Lane `l` of trip `k` stores place `16 k + l`. -/
theorem emb_chunkO (k : Fin k0_t1_loop.trips) (l : S16.Idx) : ((chunkO k).emb l 0).val = 16 * k.val + (l 0).val := by
  simp [k0_off3_eq k]
/-- A trip reads the indices at the places that it stores. -/
theorem emb_chunks (k : Fin k0_t1_loop.trips) (l : S16.Idx) : (chunkI k).emb l = (chunkO k).emb l := by
  funext a
  obtain rfl : a = 0 := Subsingleton.elim _ _
  exact Fin.ext ((emb_chunkI k l).trans (emb_chunkO k l).symm)

/-- The sixteen indices trip `k` loads. -/
theorem readAt_iB (k : Fin k0_t1_loop.trips) (w : S32768.Idx → Elt F .i32) (l : S16.Idx) :
    (iB.view.readAt (Elt F) (chunkI k).toLoadRect w : S16.Idx → Elt F .i32) l = w ((chunkI k).emb l) := rfl

/-- The check of trip `k` passes: indices below 32768 name elements of the row. -/
theorem chk_ok (k : Fin k0_t1_loop.trips) {w : S32768.Idx → Elt F .i32} (hw : ∀ j, (w j).toNat < 32768) :
    k0_chk1 (iB.view.readAt (Elt F) (chunkI k).toLoadRect w) := by
  intro a l
  obtain rfl : a = 0 := Subsingleton.elim _ _
  exact hw ((chunkI k).emb l)

/-- The sixteen elements trip `k` gathers are the gathered row's at chunk `k`. -/
theorem loadIdx_chunk (k : Fin k0_t1_loop.trips) (x : S32768.Idx → Elt F .f32) {w : S32768.Idx → Elt F .i32}
    (hw : ∀ j, (w j).toNat < 32768) (l : S16.Idx) :
    loadIdx ((xB.access (.whole S32768)).read (Elt F) x) ![iB.view.readAt (Elt F) (chunkI k).toLoadRect w]
        (k0_idx1_inb _ (chk_ok k hw)) l
      = rowGathered x w ((chunkO k).emb l) := by
  show (xB.access (.whole S32768)).read (Elt F) x _ = _
  refine (View.read_apply _ _).trans ((cast_eq _ _).trans ?_)
  refine congrArg x ((Rect.emb_whole_apply _ _).trans ?_)
  funext a
  obtain rfl : a = 0 := Subsingleton.elim _ _
  apply Fin.ext
  show (w ((chunkI k).emb l)).toNat = (w ((chunkO k).emb l)).toNat % 32768
  rw [← emb_chunks, Nat.mod_eq_of_lt (hw _)]

/-- Storing them takes the row from its first `16 * k` elements gathered to its first `16 * (k + 1)`. -/
theorem upto_succ (k : Fin k0_t1_loop.trips) {x : S32768.Idx → Elt F .f32} {w : S32768.Idx → Elt F .i32}
    {f : S32768.Idx → Elt F .f32} (hf : Upto x w k.val f) {g : S16.Idx → Elt F .f32}
    (hg : ∀ l, g l = rowGathered x w ((chunkO k).emb l)) :
    Upto x w (k.val + 1) ((oB.access (chunkO k)).write (Elt F) f g Finset.univ) := by
  intro j hj
  by_cases h : (j 0).val < 16 * k.val
  · refine (View.write_of_not_mem _ _ _ ?_).trans (hf j h)
    intro hm
    obtain ⟨l, -, rfl⟩ := Finset.mem_map.mp hm
    have := emb_chunkO k l
    have e : ((oB.access (chunkO k)).emb l 0).val = ((chunkO k).emb l 0).val := rfl
    omega
  · obtain ⟨l, rfl⟩ : ∃ l : S16.Idx, (chunkO k).emb l = j := by
      refine ⟨ix1 ⟨(j 0).val - 16 * k.val, by omega⟩, ?_⟩
      funext a
      obtain rfl : a = 0 := Subsingleton.elim _ _
      apply Fin.ext
      rw [emb_chunkO]
      show 16 * k.val + ((j 0).val - 16 * k.val) = _
      omega
    exact (View.write_emb_of_mem (v := oB.access (chunkO k)) f g (Finset.mem_univ l)).trans ((cast_eq _ _).trans (hg l))

/-- A row whose 2048 chunks are gathered is the gathered row. -/
theorem upto_all {x : S32768.Idx → Elt F .f32} {w : S32768.Idx → Elt F .i32} {f : S32768.Idx → Elt F .f32}
    (hf : Upto x w 2048 f) : f = rowGathered x w :=
  funext fun j => hf j (show (j 0).val < 16 * 2048 from (j 0).isLt)

/-- The loop takes 2048 trips. -/
theorem trips_eq : k0_t1_loop.trips = 2048 := by decide +kernel

end Cert.Proof.Rows

end
-- ==== Proof.Trip.lean ====
/-
  One trip of a task's loop, run: the row of the table and the row of indices are read and kept, and the row being gathered
  goes from its first `16 * k` elements to its first `16 * (k + 1)`.
-/
module

public import proofs.«01_k».proof.Proof.Values

@[expose] public section

noncomputable section

namespace Cert.Proof.Rows

open Cert.KernelIdeal Cert.KernelIdeal.Gen
open Idealize.ShloMosaic
open Idealize.ShloMosaic.SparseCore (V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

local notation "𝕄" => MM F

variable (d : Dev nD) (L : grid0.Coords)

/-- The subcore's three buffers, at given contents. -/
abbrev xBuf (f : S32768.Idx → Elt F .f32) : sProp 𝕄 := xB.view.loc (thr d L) ↦{fullShare} f
/-- The index buffer holds `f`. -/
abbrev iBuf (f : S32768.Idx → Elt F .i32) : sProp 𝕄 := iB.view.loc (thr d L) ↦{fullShare} f
/-- The result buffer holds `f`. -/
abbrev oBuf (f : S32768.Idx → Elt F .f32) : sProp 𝕄 := oB.view.loc (thr d L) ↦{fullShare} f

/-- What the loop keeps: the two fetched rows, and the row being gathered, gathered up to trip `k`. -/
def tripInv (x : S32768.Idx → Elt F .f32) (w : S32768.Idx → Elt F .i32) (k : ℕ) (_ : PUnit) : sProp 𝕄 :=
  iprop(xBuf d L x ∗ iBuf d L w ∗ ∃ f, ⌜Upto x w k f⌝ ∗ oBuf d L f)

/-- Trip `k` takes the loop's resources from `k` to `k + 1`. -/
theorem wp_trip {x : S32768.Idx → Elt F .f32} {w : S32768.Idx → Elt F .i32} (hw : ∀ j, (w j).toNat < 32768)
    (k : Fin k0_t1_loop.trips) :
    tripInv d L x w k.val ⟨⟩
      ⊢ wp frame (wpE (defs₀ (F := F)) 𝒱₀ (thr d L) none) Set.univ (tripProg (F := F) L k)
          fun _ => tripInv d L x w (k.val + 1) ⟨⟩ := by
  unfold tripInv tripProg
  simp only [Prog.lift, Prog.bind_op, Prog.bind_ret, Prog.pure_eq_ret]
  iintro ⟨Hx, Hi, %f, %hf, Ho⟩
  iapply (wp_load 𝒱₀ (thr d L) none Set.univ (m := iB) (S := Finset.univ) (Finset.subset_univ _)) $$ Hi; iintro Hi
  rw [wp_assume_of _ _ _ _ (chk_ok k hw)]
  iapply (SparseCore.wp_vectorLoadIdx 𝒱₀ (thr d L) none Set.univ (base := xB) (S := Finset.univ) (q := fullShare)
    (Finset.subset_univ _)) $$ Hx; iintro Hx
  iapply (wp_load 𝒱₀ (thr d L) none Set.univ (m := oB) (S := Finset.univ) (Finset.subset_univ _)) $$ Ho; iintro Ho
  iapply (wp_store 𝒱₀ (thr d L) none Set.univ (m := oB) (r := chunkO k) (Mk := Finset.univ) (S := Finset.univ)
    (Finset.subset_univ _)) $$ Ho; iintro Ho
  sl_step
  isplitl [Hx]; · iexact Hx
  isplitl [Hi]; · iexact Hi
  iexists _; isplitr
  swap; · iexact Ho
  ipureintro
  exact upto_succ k hf (loadIdx_chunk k x hw)

end Cert.Proof.Rows

end
-- ==== Proof.Row.lean ====
/-
  One row of a task, run: from the task's row of the table, its row of indices and its row of the result, the row of the
  result comes back holding the gathered row, the other two as they were.
-/
module

public import proofs.«01_k».proof.Proof.Trip

@[expose] public section

noncomputable section

namespace Cert.Proof.Rows

open Cert.KernelIdeal Cert.KernelIdeal.Gen
open Idealize.ShloMosaic
open Idealize.ShloMosaic.SparseCore (V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

local notation "𝕄" => MM F

variable (m : (ℓ : Loc nD τ sig) → Buf (Elt F) ℓ) (d : Dev nD) (L : grid0.Coords)

/-- What the result holds at the end: the table gathered along its rows. -/
abbrev OUT (d : Dev nD) : S128x32768.Idx → Elt F .f32 := gathered (m (xLoc d)) (m (iLoc d))

/-- A task's `r`-th row of the table, of the indices and of the result, the last at contents `f`, as the task addresses
    them. -/
abbrev xRow (r : Fin 4) : sProp 𝕄 := (rowOf xM L r).view.loc (thr d L) ↦[(rowOf xM L r).view.set]{fullShare} m (xLoc d)
/-- Row `r` of the tile's indices. -/
abbrev iRow (r : Fin 4) : sProp 𝕄 := (rowOf iM L r).view.loc (thr d L) ↦[(rowOf iM L r).view.set]{fullShare} m (iLoc d)
/-- Row `r` of the tile's results, holding `f`. -/
abbrev oRow (r : Fin 4) (f : S128x32768.Idx → Elt F .f32) : sProp 𝕄 :=
  (rowOf oM L r).view.loc (thr d L) ↦[(rowOf oM L r).view.set]{fullShare} f

/-- The cell of one of the subcore's transfer semaphores. -/
abbrev cell (s : DmaSems sig S_) : GSem nD τ sig := (thr d L, .dma s.sem)

/-- The subcore's three buffers, at any contents. -/
abbrev bufs : sProp 𝕄 := iprop((∃ f, xBuf d L f) ∗ (∃ f, iBuf d L f) ∗ ∃ f, oBuf d L f)

/-- The subcore's `owes` with some waits recorded, each of `W` or at no call. -/
abbrev owing (O : CellTallies nD τ sig (HIx 1)) (W : Waits sig (HIx 1)) : sProp 𝕄 :=
  iprop(∃ W', ⌜∀ p ∈ W', p ∈ W ∨ p.2 = none⌝ ∗ owes (thr d L) O W')

set_option maxHeartbeats 4000000 in
/-- One row: the three buffers and the three semaphores serve it and come back. -/
theorem wp_row (hpre : PreOK m) (O : CellTallies nD τ sig (HIx 1)) (W : Waits sig (HIx 1)) (r : Fin 4) (s₀ s₁ s₂ : DmaSems sig S_) :
    iprop(Transfers.MayWaits (thr d L) (none : HIx 1) O
        ∗ (xRow m d L r ∗ iRow m d L r ∗ oRow d L r (m (oLoc d)))
        ∗ bufs d L
        ∗ (semVal (cell d L s₀) 0 ∗ semVal (cell d L s₁) 0 ∗ semVal (cell d L s₂) 0)
        ∗ owing d L O W)
      ⊢ wp frame (wpE (defs₀ (F := F)) 𝒱₀ (thr d L) none) Set.univ (rowProg (F := F) L r s₀ s₁ s₂)
          fun _ => iprop((xRow m d L r ∗ iRow m d L r ∗ oRow d L r (OUT m d))
            ∗ bufs d L
            ∗ (semVal (cell d L s₀) 0 ∗ semVal (cell d L s₁) 0 ∗ semVal (cell d L s₂) 0)
            ∗ owing d L O W) := by
  unfold rowProg
  iintro ⟨Hmw, ⟨Hx, Hi, Ho⟩, ⟨⟨%fx, Hbx⟩, ⟨%fi, Hbi⟩, ⟨%fo, Hbo⟩⟩, ⟨Hs0, Hs1, Hs2⟩, %W', %hW', HO⟩
  sl_exec
  -- what the fetches landed: the two rows
  have hx : (xB.view.write (Elt F) fx (wp_row.sl.dma0 m d L r) Finset.univ : S32768.Idx → Elt F .f32)
      = row (m (xLoc d)) (rowNo L r) := (View.write_whole_univ _ _ _).trans (read_rowOf_x L r _)
  have hi : (iB.view.write (Elt F) fi (wp_row.sl.dma0_1 m d L r) Finset.univ : S32768.Idx → Elt F .i32)
      = row (m (iLoc d)) (rowNo L r) := (View.write_whole_univ _ _ _).trans (read_rowOf_i L r _)
  rw [hx, hi]
  have hw : ∀ j, (row (m (iLoc d)) (rowNo L r) j).toNat < 32768 := fun j => hpre d _
  sl_for (tripInv d L (row (m (xLoc d)) (rowNo L r)) (row (m (iLoc d)) (rowNo L r))) $$ [Hbx Hbi Hbo]
  case region =>
    intro k _
    exact wp_trip d L hw k
  · unfold tripInv
    isplitl [Hbx]; · iexact Hbx
    isplitl [Hbi]; · iexact Hbi
    iexists fo; isplitr
    · ipureintro; exact fun j h => absurd h (by omega)
    · iexact Hbo
  iintro %_ HI
  unfold tripInv
  icases HI with ⟨Hbx, Hbi, %f, %hf, Hbo⟩
  sl_exec
  -- what the write-out carries: the gathered row
  have ho : wp_row.sl.dma0_2 f = row (OUT m d) (rowNo L r) := by
    show oB.view.read (Elt F) f = _
    refine (View.read_whole _ _).trans ?_
    rw [row_gathered]
    exact upto_all (trips_eq ▸ hf)
  rw [ho]
  sl_step
  isplitl [Hx Hi Ho]
  · isplitl [Hx]; · iexact Hx
    isplitl [Hi]; · iexact Hi
    iapply (Entails.of_eq (pointsTo_congr (write_rowOf_o L r (m (oLoc d)) (OUT m d)))); iexact Ho
  isplitl [Hbx Hbi Hbo]
  · isplitl [Hbx]; · iexists _; iexact Hbx
    isplitl [Hbi]; · iexists _; iexact Hbi
    iexists _; iexact Hbo
  isplitl [Hs0 Hs1 Hs2]
  · isplitl [Hs0]; · iexact Hs0
    isplitl [Hs1]; · iexact Hs1
    iexact Hs2
  iexists _; isplitr
  swap; · iexact HO
  ipureintro; intro p hp
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  exact hW' p hp

end Cert.Proof.Rows

end
-- ==== Proof.Tile.lean ====
/-
  A whole task, run: from the task's four rows of the table, of the indices and of the result, the four rows of the result
  come back gathered.
-/
module

public import proofs.«01_k».proof.Proof.Row

@[expose] public section

noncomputable section

namespace Cert.Proof.Rows

open Cert.KernelIdeal Cert.KernelIdeal.Gen
open Idealize.ShloMosaic
open Idealize.ShloMosaic.SparseCore (V T)
open Idealize.ShloMosaic.SparseCore.Cfg (HIx ownBufs ownSems0 ownCells ownRefs mem_ownCells)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type}

local notation "𝕄" => MM F

/-- A resource for each of four, or of three, one by one. -/
theorem bigSep_four (Φ : Fin 4 → sProp 𝕄) : bigSep Finset.univ Φ = iprop(Φ 0 ∗ Φ 1 ∗ Φ 2 ∗ Φ 3) :=
  bigSep_univ_eq_bigSepL [0, 1, 2, 3] (by decide) (by decide) Φ
/-- A separating product over three. -/
theorem bigSep_three (Φ : Fin 3 → sProp 𝕄) : bigSep Finset.univ Φ = iprop(Φ 0 ∗ Φ 1 ∗ Φ 2) :=
  bigSep_univ_eq_bigSepL [0, 1, 2] (by decide) (by decide) Φ

/-- Of four resources, the first three put together. -/
theorem regroup (P₀ P₁ P₂ R : sProp 𝕄) : iprop(P₀ ∗ P₁ ∗ P₂ ∗ R) = iprop((P₀ ∗ P₁ ∗ P₂) ∗ R) :=
  BI.Entails.antisymm
    (show iprop(P₀ ∗ P₁ ∗ P₂ ∗ R) ⊢ iprop((P₀ ∗ P₁ ∗ P₂) ∗ R) by
      iintro ⟨H0, H1, H2, H⟩
      isplitr [H]
      · isplitl [H0]; · iexact H0
        isplitl [H1]; · iexact H1
        iexact H2
      · iexact H)
    (show iprop((P₀ ∗ P₁ ∗ P₂) ∗ R) ⊢ iprop(P₀ ∗ P₁ ∗ P₂ ∗ R) by
      iintro ⟨⟨H0, H1, H2⟩, H⟩
      isplitl [H0]; · iexact H0
      isplitl [H1]; · iexact H1
      isplitl [H2]; · iexact H2
      iexact H)

/-! ## Rows of an array, by number -/

/-- The 128 rows divide the first axis. -/
theorem rows_div : 128 ∣ S128x32768.size 0 := ⟨1, rfl⟩

/-- Row `n` of an array, as the set of its elements. -/
abbrev rowSet (n : Fin 128) : Finset S128x32768.Idx := (Rect.part (s := S128x32768) (a₀ := 0) rows_div n).set

/-- The rectangle a task addresses is the row of its number. -/
theorem rowRect_eq (L : grid0.Coords) (r : Fin 4) : rowRect L r = Rect.part (s := S128x32768) (a₀ := 0) rows_div (rowNo L r) := by
  unfold rowRect Rect.part Rect.block
  congr 1 <;> funext a
  · rw [k0_off1_eq]
    match a with
    | 0 => simp [Shape.partIx, Shape.partSize, rowNo]
    | 1 => simp [Shape.partIx, Shape.partSize]
  · match a with
    | 0 => simp [Shape.partSize]
    | 1 => simp [Shape.partSize]

/-- The elements a task addresses of an array seen whole are those of the row of its number. -/
theorem set_rowOf_x (L : grid0.Coords) (r : Fin 4) : (rowOf xM L r).view.set = rowSet (rowNo L r) := by
  show (((View.whole main_arg0_scv).slice (rowRect L r)).reshape S32768 squeezes_S1x32768_S32768.numel_eq).set = _
  rw [View.set_reshape, View.set_slice]
  exact Finset.map_refl.trans (rowRect_eq L r ▸ rfl)
/-- The places of a tile's row of the indices are those of that row of the array. -/
theorem set_rowOf_i (L : grid0.Coords) (r : Fin 4) : (rowOf iM L r).view.set = rowSet (rowNo L r) := by
  show (((View.whole main_arg1_scv).slice (rowRect L r)).reshape S32768 squeezes_S1x32768_S32768.numel_eq).set = _
  rw [View.set_reshape, View.set_slice]
  exact Finset.map_refl.trans (rowRect_eq L r ▸ rfl)
/-- The places of a tile's row of the results are those of that row of the array. -/
theorem set_rowOf_o (L : grid0.Coords) (r : Fin 4) : (rowOf oM L r).view.set = rowSet (rowNo L r) := by
  show (((View.whole main_v0_scv).slice (rowRect L r)).reshape S32768 squeezes_S1x32768_S32768.numel_eq).set = _
  rw [View.set_reshape, View.set_slice]
  exact Finset.map_refl.trans (rowRect_eq L r ▸ rfl)

variable (m : (ℓ : Loc nD τ sig) → Buf (Elt F) ℓ) (d : Dev nD)

/-- Row `n` of the table, of the indices and of the result, the last at contents `f`. -/
abbrev rowPts (f : Buf (Elt F) (oLoc d)) (n : Fin 128) : sProp 𝕄 :=
  iprop((xLoc d ↦[rowSet n]{fullShare} m (xLoc d)) ∗ (iLoc d ↦[rowSet n]{fullShare} m (iLoc d)) ∗ oLoc d ↦[rowSet n]{fullShare} f)

/-- The four rows of the task at `L`. -/
abbrev taskRows (L : grid0.Coords) (f : Buf (Elt F) (oLoc d)) : sProp 𝕄 :=
  bigSep Finset.univ fun r : Fin 4 => rowPts m d f (rowNo L r)

variable (L : grid0.Coords)

/-- A task's row, as the task addresses it, is the row of its number. -/
theorem rowPts_eq (r : Fin 4) (f : Buf (Elt F) (oLoc d)) :
    iprop(xRow m d L r ∗ iRow m d L r ∗ oRow d L r f) = rowPts m d f (rowNo L r) := by
  unfold xRow iRow oRow
  rw [set_rowOf_x, set_rowOf_i, set_rowOf_o]

/-- The four rows one by one, as the task addresses them. -/
theorem taskRows_eq (f : Buf (Elt F) (oLoc d)) :
    taskRows m d L f = iprop((xRow m d L 0 ∗ iRow m d L 0 ∗ oRow d L 0 f) ∗ (xRow m d L 1 ∗ iRow m d L 1 ∗ oRow d L 1 f)
      ∗ (xRow m d L 2 ∗ iRow m d L 2 ∗ oRow d L 2 f) ∗ xRow m d L 3 ∗ iRow m d L 3 ∗ oRow d L 3 f) := by
  unfold taskRows
  rw [bigSep_congr fun r _ => (rowPts_eq m d L r f).symm, bigSep_four]

/-! ## The subcore's semaphores and buffers -/

/-- The semaphores of the task's `r`-th row: of the table's fetch, the indices' fetch and the write-out. -/
def semOf : Fin 4 → Fin 3 → DmaSems sig S_ :=
  ![![cc0_scoped0, cc0_scoped1, cc0_scoped2], ![cc0_scoped3, cc0_scoped4, cc0_scoped5],
    ![cc0_scoped6, cc0_scoped7, cc0_scoped8], ![cc0_scoped9, cc0_scoped10, cc0_scoped11]]

/-- The twelve copies wait on twelve different semaphores. -/
theorem semOf_injective : ∀ p q : Fin 4 × Fin 3,
    (SemLoc.dma (semOf p.1 p.2).sem : SemLoc sig) = .dma (semOf q.1 q.2).sem → p = q := by decide

/-- Each of them lives only while the kernel runs. -/
theorem semOf_scoped : ∀ p : Fin 4 × Fin 3, (SemLoc.dma (semOf p.1 p.2).sem : SemLoc sig).isScoped .scVector = true := by
  decide

/-- The twelve semaphores' cells. -/
def cells : Fin 4 × Fin 3 ↪ GSem nD τ sig :=
  ⟨fun p => cell d L (semOf p.1 p.2), fun p q h => semOf_injective p q (congrArg Prod.snd h)⟩

/-- The three semaphores of the `r`-th row, at zero. -/
abbrev rowSems (r : Fin 4) : sProp 𝕄 :=
  iprop(semVal (cell d L (semOf r 0)) 0 ∗ semVal (cell d L (semOf r 1)) 0 ∗ semVal (cell d L (semOf r 2)) 0)

/-- The subcore's other semaphores, at zero. -/
abbrev otherSems : sProp 𝕄 :=
  bigSep (ownCells (thr d L) \ Finset.univ.map (cells d L)) fun g => semVal g 0

/-- The subcore's own semaphores are the four rows' and the others. -/
theorem ownSems0_eq :
    (ownSems0 (thr d L) : sProp 𝕄) = iprop((rowSems d L 0 ∗ rowSems d L 1 ∗ rowSems d L 2 ∗ rowSems d L 3) ∗ otherSems d L) := by
  have hsub : Finset.univ.map (cells d L) ⊆ ownCells (thr d L) := by
    intro g hg
    obtain ⟨p, -, rfl⟩ := Finset.mem_map.mp hg
    exact mem_ownCells.mpr ⟨rfl, semOf_scoped p⟩
  unfold SparseCore.Cfg.ownSems0
  rw [SparseCore.bigSep_sdiff_split' hsub, BI.bigSep_map]
  congr 1
  rw [bigSep_univ_prod, bigSep_congr fun r _ => bigSep_three _, bigSep_four]
  rfl

/-- The buffers a subcore owns beside its three. -/
abbrev otherBufs : sProp 𝕄 :=
  bigSep ((((ownRefs (τ := τ) (.scVector (cV L) (jV L))).erase ((Proc.scVector (cV L) (jV L)).devRef cc0_scratch0)).erase
    ((Proc.scVector (cV L) (jV L)).devRef cc0_scratch1)).erase ((Proc.scVector (cV L) (jV L)).devRef cc0_scratch2))
    fun b => iprop(∃ f, ((d, b) : Loc nD τ sig) ↦{fullShare} f)

/-- The subcore's own buffers are its three and the others. -/
theorem ownBufs_eq : (ownBufs (thr d L) : sProp 𝕄) = iprop(bufs d L ∗ otherBufs d L) := by
  have hne : ∀ a b : Ref sig .scVector, a ≠ b → (Proc.scVector (cV L) (jV L)).devRef a ≠ (Proc.scVector (cV L) (jV L)).devRef b :=
    fun _ _ h e => h (Proc.devRef_injective _ e)
  unfold SparseCore.Cfg.ownBufs
  rw [SparseCore.bigSep_erase' (SparseCore.Cfg.mem_ownRefs_of_owner (p := Proc.scVector (cV L) (jV L))
      (b := (Proc.scVector (cV L) (jV L)).devRef cc0_scratch0) rfl),
    SparseCore.bigSep_erase' (Finset.mem_erase.mpr ⟨hne cc0_scratch1 cc0_scratch0 (by decide), SparseCore.Cfg.mem_ownRefs_of_owner (p := Proc.scVector (cV L) (jV L))
      (b := (Proc.scVector (cV L) (jV L)).devRef cc0_scratch1) rfl⟩),
    SparseCore.bigSep_erase' (Finset.mem_erase.mpr ⟨hne cc0_scratch2 cc0_scratch1 (by decide),
      Finset.mem_erase.mpr ⟨hne cc0_scratch2 cc0_scratch0 (by decide), SparseCore.Cfg.mem_ownRefs_of_owner (p := Proc.scVector (cV L) (jV L))
      (b := (Proc.scVector (cV L) (jV L)).devRef cc0_scratch2) rfl⟩⟩)]
  exact regroup _ _ _ _

/-! ## The task -/

variable [FloatOps F]

/-- One row, and then what follows it. -/
theorem wp_row_then (hpre : PreOK m) (O : CellTallies nD τ sig (HIx 1)) (W : Waits sig (HIx 1)) (r : Fin 4)
    (rest : Prog (TpuEff nD τ sig (Elt F) Λ₀ (.scVector ((L 0).castLE hcore0) ((L 1).castLE hsub0))) PUnit) (Q : PUnit → sProp 𝕄) :
    iprop(Transfers.MayWaits (thr d L) (none : HIx 1) O
        ∗ (xRow m d L r ∗ iRow m d L r ∗ oRow d L r (m (oLoc d))) ∗ rowSems d L r ∗ bufs d L ∗ owing d L O W
        ∗ ((xRow m d L r ∗ iRow m d L r ∗ oRow d L r (OUT m d)) -∗ rowSems d L r -∗ bufs d L -∗ owing d L O W
            -∗ wp frame (wpE (defs₀ (F := F)) 𝒱₀ (thr d L) none) Set.univ rest Q))
      ⊢ wp frame (wpE (defs₀ (F := F)) 𝒱₀ (thr d L) none) Set.univ
          (rowProg (F := F) L r (semOf r 0) (semOf r 1) (semOf r 2) >>= fun _ => rest) Q := by
  rw [wp_bind]
  iintro ⟨Hmw, Hr, Hs, Hb, HO, Hk⟩
  iapply (wp_wand_r frame _ Set.univ)
  isplitr [Hk]
  · iapply (wp_row m d L hpre O W r (semOf r 0) (semOf r 1) (semOf r 2))
    isplitl [Hmw]; · iexact Hmw
    isplitl [Hr]; · iexact Hr
    isplitl [Hb]; · iexact Hb
    isplitl [Hs]; · iexact Hs
    iexact HO
  · iintro %_ ⟨Hr, Hb, Hs, HO⟩
    iapply Hk $$ Hr Hs Hb HO

/-- The body as its four rows, each with its own semaphores. -/
theorem body_rows :
    bodyProg (F := F) L = (rowProg (F := F) L 0 (semOf 0 0) (semOf 0 1) (semOf 0 2) >>= fun _ =>
      rowProg (F := F) L 1 (semOf 1 0) (semOf 1 1) (semOf 1 2) >>= fun _ =>
      rowProg (F := F) L 2 (semOf 2 0) (semOf 2 1) (semOf 2 2) >>= fun _ =>
      rowProg (F := F) L 3 (semOf 3 0) (semOf 3 1) (semOf 3 2) >>= fun _ => pure ⟨⟩) := by
  rw [bind_pure_unit]
  exact body_eq (F := F) L

set_option maxHeartbeats 1000000 in
/-- The task on its subcore: four rows gathered, the subcore's buffers and semaphores as they were found. -/
theorem wp_task (hF : (K (F := F)).Facts) (hpre : PreOK m) (O : CellTallies nD τ sig (HIx 1)) (W : Waits sig (HIx 1))
    (hO : ∀ g, O g none = 0) :
    iprop(levAts (K (F := F)).L (K (F := F)).lev ∗ emp ∗ taskRows m d L (m (oLoc d))
        ∗ scopedBufs (thr d L) ∗ scopedSems0 (thr d L) ∗ owes (thr d L) O W)
      ⊢ wp frame (wpE (defs₀ (F := F)) 𝒱₀ (thr d L) none) Set.univ (bodyProg (F := F) L)
          fun _ => iprop(taskRows m d L (OUT m d) ∗ scopedBufs (thr d L) ∗ scopedSems0 (thr d L) ∗ owing d L O W) := by
  rw [body_rows (F := F), (K (F := F)).scopedBufs_V hF d (cV L) (jV L), SparseCore.Cfg.scopedSems0_V (Val := Elt F) d (cV L) (jV L),
    ownSems0_eq, ownBufs_eq, taskRows_eq, taskRows_eq]
  iintro ⟨#Hlv, -, ⟨Hr0, Hr1, Hr2, Hr3⟩, ⟨Hb, Hbs⟩, ⟨⟨Hs0, Hs1, Hs2, Hs3⟩, Hss⟩, HO⟩
  ihave #Hmw := (show levAts (K (F := F)).L (K (F := F)).lev ⊢ Transfers.MayWaits (thr d L) (default : HIx 1) O from
    (K (F := F)).mayWaits_none (thr := thr d L) hO) $$ Hlv
  ihave HO := (show owes (thr d L) O W ⊢ (owing d L O W : sProp 𝕄) by
    iintro H; iexists W; isplitr
    · ipureintro; exact fun p hp => .inl hp
    · iexact H) $$ HO
  iapply (wp_row_then m d L hpre O W 0)
  isplitr; · iexact Hmw
  isplitl [Hr0]; · iexact Hr0
  isplitl [Hs0]; · iexact Hs0
  isplitl [Hb]; · iexact Hb
  isplitl [HO]; · iexact HO
  iintro Hr0 Hs0 Hb HO
  iapply (wp_row_then m d L hpre O W 1)
  isplitr; · iexact Hmw
  isplitl [Hr1]; · iexact Hr1
  isplitl [Hs1]; · iexact Hs1
  isplitl [Hb]; · iexact Hb
  isplitl [HO]; · iexact HO
  iintro Hr1 Hs1 Hb HO
  iapply (wp_row_then m d L hpre O W 2)
  isplitr; · iexact Hmw
  isplitl [Hr2]; · iexact Hr2
  isplitl [Hs2]; · iexact Hs2
  isplitl [Hb]; · iexact Hb
  isplitl [HO]; · iexact HO
  iintro Hr2 Hs2 Hb HO
  iapply (wp_row_then m d L hpre O W 3)
  isplitr; · iexact Hmw
  isplitl [Hr3]; · iexact Hr3
  isplitl [Hs3]; · iexact Hs3
  isplitl [Hb]; · iexact Hb
  isplitl [HO]; · iexact HO
  iintro Hr3 Hs3 Hb HO
  simp only [wp_pure]
  imodintro
  isplitl [Hr0 Hr1 Hr2 Hr3]
  · isplitl [Hr0]; · iexact Hr0
    isplitl [Hr1]; · iexact Hr1
    isplitl [Hr2]; · iexact Hr2
    iexact Hr3
  isplitl [Hb Hbs]
  · isplitl [Hb]; · iexact Hb
    iexact Hbs
  isplitr [HO]
  · isplitr [Hss]
    · isplitl [Hs0]; · iexact Hs0
      isplitl [Hs1]; · iexact Hs1
      isplitl [Hs2]; · iexact Hs2
      iexact Hs3
    · iexact Hss
  iexact HO

end Cert.Proof.Rows

end
-- ==== Proof.Tasks.lean ====
/-
  The call's tasks: what the launch hands each task and what it brings back, that every task meets that, and that the three
  arrays whole are the tasks' rows together.
-/
module

public import proofs.«01_k».proof.Proof.Tile

@[expose] public section

noncomputable section

namespace Cert.Proof.Rows

open Cert.KernelIdeal Cert.KernelIdeal.Gen
open Idealize.ShloMosaic
open Idealize.ShloMosaic.SparseCore (V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem

variable {F : FTy → Type}

local notation "𝕄" => MM F

/-! ## Which task has which rows -/

/-- The coordinates of the task of SparseCore `c` and subcore `s`. -/
def taskAt (c : Fin 2) (s : Fin 16) : grid0.Coords :=
  fun | 0 => c | 1 => s | ⟨_ + 2, h⟩ => absurd h (Nat.not_lt.2 (Nat.le_add_left _ _))

/-- The rows: every row is one task's, at one of its four places. -/
def rowOfTask : Fin 2 × Fin 16 × Fin 4 ≃ Fin 128 where
  toFun p := rowNo (taskAt p.1 p.2.1) p.2.2
  invFun n := (⟨n.val / 4 % 2, by omega⟩, ⟨n.val / 8, by omega⟩, ⟨n.val % 4, by omega⟩)
  left_inv := by
    rintro ⟨c, s, r⟩
    have hc := c.isLt; have hs := s.isLt; have hr := r.isLt
    have e : (rowNo (taskAt c s) r).val = 8 * s.val + 4 * c.val + r.val := rfl
    refine Prod.ext (Fin.ext ?_) (Prod.ext (Fin.ext ?_) (Fin.ext ?_)) <;> simp only [e] <;> omega
  right_inv := by
    intro n
    have hn := n.isLt
    apply Fin.ext
    show 8 * (n.val / 8) + 4 * (n.val / 4 % 2) + n.val % 4 = n.val
    omega

variable (m : (ℓ : Loc nD τ sig) → Buf (Elt F) ℓ) (d : Dev nD)

/-- No place lies in two rows. -/
theorem rows_disjoint : ∀ a ∈ (Finset.univ : Finset (Fin 128)), ∀ b ∈ (Finset.univ : Finset (Fin 128)), a ≠ b →
    Disjoint (rowSet a) (rowSet b) :=
  fun _ _ _ _ h => Rect.part_disjoint rows_div h

/-- The 128 rows are all of an array. -/
theorem rows_cover : (Finset.univ : Finset (Fin 128)).biUnion rowSet = Finset.univ := Rect.biUnion_part rows_div

/-- The table, the indices and the result whole, the last at contents `f`. -/
abbrev allPts (f : Buf (Elt F) (oLoc d)) : sProp 𝕄 :=
  iprop((xLoc d ↦{fullShare} m (xLoc d)) ∗ (iLoc d ↦{fullShare} m (iLoc d)) ∗ oLoc d ↦{fullShare} f)

/-- An array whole is its 128 rows. -/
theorem whole_eq_rows (ℓ : Loc nD τ sig) (S : Fin 128 → Finset (Idx ℓ)) (f : Buf (Elt F) ℓ)
    (hd : ∀ a ∈ (Finset.univ : Finset (Fin 128)), ∀ b ∈ (Finset.univ : Finset (Fin 128)), a ≠ b → Disjoint (S a) (S b))
    (hc : (Finset.univ : Finset (Fin 128)).biUnion S = Finset.univ) :
    (ℓ ↦{fullShare} f : sProp 𝕄) = bigSep Finset.univ fun n : Fin 128 => ℓ ↦[S n]{fullShare} f := by
  rw [← pointsTo_biUnion Finset.univ (ℓ := ℓ) S hd, hc]

/-- The three arrays whole are the rows of all the tasks. -/
theorem allPts_eq (f : Buf (Elt F) (oLoc d)) :
    allPts m d f = bigSep Finset.univ fun c : Fin 2 => bigSep Finset.univ fun s : Fin 16 => taskRows m d (taskAt c s) f := by
  unfold allPts
  rw [whole_eq_rows (xLoc d) rowSet _ rows_disjoint rows_cover, whole_eq_rows (iLoc d) rowSet _ rows_disjoint rows_cover,
    whole_eq_rows (oLoc d) rowSet _ rows_disjoint rows_cover, ← bigSep_sep', ← bigSep_sep',
    bigSep_univ_equiv rowOfTask, bigSep_univ_prod]
  exact bigSep_congr fun c _ => bigSep_univ_prod _

/-! ## What the launch hands over -/

variable [FloatOps F]

/-- Each task takes its rows at the launch's contents and brings them back with the result's gathered; a SparseCore takes
    and brings back its tasks'. -/
def P : (K (F := F)).Pay (nD := nD) (Val := Elt F) (Name := ℕ) (U := UU) where
  st := fun q d c => match q with
    | 0 => bigSep Finset.univ fun s : Fin 16 => taskRows m d (taskAt c s) (m (oLoc d))
  dn := fun q d c => match q with
    | 0 => bigSep Finset.univ fun s : Fin 16 => taskRows m d (taskAt c s) (OUT m d)
  go := fun q d c s => match q with | 0 => taskRows m d (taskAt c s) (m (oLoc d))
  td := fun q d c s => match q with | 0 => taskRows m d (taskAt c s) (OUT m d)
  x := fun _ _ => iprop(emp)

/-- What the handshakes carry is storable: it is made of points-to alone. -/
instance P_storable : (P (F := F) m).IsStorable where
  st q d c := match q with
    | 0 => (inferInstance : BI.Storable (upEmb : UEmb _ 𝕄)
      (bigSep Finset.univ fun s : Fin 16 => taskRows m d (taskAt c s) (m (oLoc d))))
  dn q d c := match q with
    | 0 => (inferInstance : BI.Storable (upEmb : UEmb _ 𝕄)
      (bigSep Finset.univ fun s : Fin 16 => taskRows m d (taskAt c s) (OUT m d)))
  go q d c s := match q with
    | 0 => (inferInstance : BI.Storable (upEmb : UEmb _ 𝕄) (taskRows m d (taskAt c s) (m (oLoc d))))
  td q d c s := match q with
    | 0 => (inferInstance : BI.Storable (upEmb : UEmb _ 𝕄) (taskRows m d (taskAt c s) (OUT m d)))

/-- A SparseCore's rows are its tasks', going out and coming back. -/
theorem vecSplit : (K (F := F)).VecSplit' (P m) 0 := by
  intro d c
  show (bigSep Finset.univ fun s : Fin 16 => taskRows m d (taskAt c s) (m (oLoc d))) ⊢ |={Set.univ}=> iprop(
      (bigSep Finset.univ fun s : Fin 16 => taskRows m d (taskAt c s) (m (oLoc d)))
      ∗ ((bigSep Finset.univ fun s : Fin 16 => taskRows m d (taskAt c s) (OUT m d))
          -∗ bigSep Finset.univ fun s : Fin 16 => taskRows m d (taskAt c s) (OUT m d)))
  iintro H; imodintro
  isplitl [H]; · iexact H
  iintro H; iexact H

/-! ## Every task meets it -/

/-- What the call's label runs on a vector subcore: the body, at the subcore's own coordinates. -/
theorem defs₀_vector (c : Fin τ.nSC) (s : Fin τ.nSub) :
    defs₀ (F := F) (.scVector c s) 0 ()
      = SparseCore.onTile hcore0 hsub0 (fun c s => bodyProg (F := F) (taskAt c s)) ⟨⟩ c s := rfl

omit [FloatOps F] in
/-- What a task ends with, told more loosely: a wait it has recorded may also be one of the call's own. -/
theorem owing_weaken {t : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes t O W')
      ⊢ iprop(A ∗ B ∗ C ∗ ∃ W', ⌜∀ p ∈ W', p ∈ W ∨ p.2 = none ∨ p.2 = some q⌝ ∗ owes t O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
/-- Every task, given its rows, brings them back gathered. -/
theorem tileObl (hF : (K (F := F)).Facts) (hpre : PreOK m) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (wp_task m d (taskAt ⟨_, hci.1⟩ ⟨_, hci.2⟩) hF hpre O W hO).trans (wp_mono frame _ _ fun _ => owing_weaken)

end Cert.Proof.Rows

end
-- ==== Proof.Launch.lean ====
/-
  The program's run: from any memory whose indices are in range, @main terminates with the result gathered, the table and
  the indices unchanged, and every semaphore back at zero.
-/
module

public import proofs.«01_k».proof.Proof.Tasks

@[expose] public section

noncomputable section

namespace Cert.Proof.Rows

open Cert.KernelIdeal Cert.KernelIdeal.Gen
open Idealize.ShloMosaic
open Idealize.ShloMosaic.SparseCore (V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MM F

variable (m : (ℓ : Loc nD τ sig) → Buf (Elt F) ℓ) (ρ : Dev nD → PrngReg)

/-! ## The ghost state at launch -/

/-- The handshakes' rounds at their start, and no transfer under way. -/
def u₀ : UU := (initOf (K (F := F)).hsCells (K (F := F)).hsToks, 1)

/-- Nothing for each of many is nothing. -/
theorem nothing_each {I : Type} (s : Finset I) : (bigSep s fun _ => iprop(emp)) = (iprop(emp) : sProp 𝕄) := bigSep_emp_const s

/-- The TensorCore's unscoped arrays are the table, the indices and the result. -/
theorem unscopedBufs_eq (d : Dev nD) (W : (b : Ref sig .tc) → Buf (Elt F) ((d.tc : Thread nD τ).loc b)) :
    (unscopedBufs d W : sProp 𝕄)
      = iprop((xLoc d ↦{fullShare} W main_arg0) ∗ (iLoc d ↦{fullShare} W main_arg1) ∗ oLoc d ↦{fullShare} W main_v0) := by
  unfold unscopedBufs
  rw [show (Finset.univ.filter fun b : Ref sig .tc => ¬ b.isScoped) = {main_arg0, main_arg1, main_v0} by decide,
    SparseCore.bigSep_insert' (by decide), SparseCore.bigSep_insert' (by decide), bigSep_singleton]

variable [FloatOps F]

/-- The launch's element: every cell of the handshakes at the start, and nothing of the kernel's own. -/
theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun t : Thread nD τ => bigSep Finset.univ fun q : Fin 1 => (P m).x q t) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [nothing_each]; iempintro
  rw [show (bigSep Finset.univ fun t : Thread nD τ => bigSep Finset.univ fun q : Fin 1 => (P (F := F) m).x q t) = bigSep Finset.univ fun _ => iprop(emp) from
    bigSep_congr fun _ _ => bigSep_univ_of_subsingleton (0 : Fin 1), nothing_each]
  iempintro

/-! ## @main on the TensorCore -/

/-- The call takes the three arrays whole and brings them back with the result gathered. -/
theorem st_eq (d : Dev nD) : (bigSep Finset.univ fun c : Fin ((K (F := F)).nCore 0) => (P m).st 0 d c) = allPts m d (m (oLoc d)) :=
  (allPts_eq m d _).symm
/-- What the SparseCores hand back together: the three arrays whole, the result gathered. -/
theorem dn_eq (d : Dev nD) : (bigSep Finset.univ fun c : Fin ((K (F := F)).nCore 0) => (P m).dn 0 d c) = allPts m d (OUT m d) :=
  (allPts_eq m d _).symm

/-- @main on device `d`: the one call, from the three arrays to the three arrays with the result gathered. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ allPts m d (OUT m d) ∗ (K (F := F)).tcEnd d) := by
  unfold SparseCore.Cfg.tcRes SparseCore.Cfg.tcEnd
  rw [unscopedBufs_eq]
  simp only [main, wp_bind, wp_pure]
  iintro ⟨#Hctx, Hst, ⟨Hb, Ha, Hts, -⟩, -⟩
  iapply ((K (F := F)).wp_run (D (F := F)) 𝒱 (EH := EH) (P := P m) κ d 0) $$ [Hst Ha Hb Hts]
  isplitr; · iexact Hctx
  isplitl [Hst]; · iexact Hst
  isplitl [Ha]
  · rw [st_eq]; iexact Ha
  iintro ⟨Hst, Hdn⟩
  ihave Hdn' := (Entails.of_eq (dn_eq m d)) $$ Hdn
  imodintro
  isplitl [Hst]; · iexact Hst
  isplitr [Hb Hts]
  · iexact Hdn'
  isplitl [Hb] <;> iassumption

/-! ## What a final state shows -/

/-- Device `d`'s memory at the end: the result gathered, the table and the indices unchanged. -/
def fq (d : Dev nD) (s' : Phys nD τ sig (Elt F)) : Prop :=
  s'.mem.mem (oLoc d) = OUT m d ∧ s'.mem.mem (xLoc d) = m (xLoc d) ∧ s'.mem.mem (iLoc d) = m (iLoc d)

set_option maxRecDepth 16384 in
/-- At the end the arrays held are those of the machine's memory. -/
theorem hfin (d : Dev nD) (s' : Phys nD τ sig (Elt F)) : iprop(allPts m d (OUT m d) ∗ SI s') ⊢ (⌜fq m d s'⌝ : sProp 𝕄) := by
  iintro ⟨⟨Hx, Hi, Ho⟩, HSI⟩
  ihave H := (persistent_entails_right (SI_pointsTo_agree (st := s') (ℓ := xLoc d) (I := Finset.univ) (q := fullShare) (f := m (xLoc d)))) $$ [HSI Hx]
  · isplitl [HSI] <;> iassumption
  icases H with ⟨%hx, HSI, -⟩
  ihave H := (persistent_entails_right (SI_pointsTo_agree (st := s') (ℓ := iLoc d) (I := Finset.univ) (q := fullShare) (f := m (iLoc d)))) $$ [HSI Hi]
  · isplitl [HSI] <;> iassumption
  icases H with ⟨%hi, HSI, -⟩
  ihave H := (SI_pointsTo_agree (st := s') (ℓ := oLoc d) (I := Finset.univ) (q := fullShare) (f := OUT m d)) $$ [HSI Ho]
  · isplitl [HSI] <;> iassumption
  icases H with %ho
  ipureintro
  exact ⟨funext fun i => ho i (Finset.mem_univ i), funext fun i => hx i (Finset.mem_univ i), funext fun i => hi i (Finset.mem_univ i)⟩

/-! ## The run -/

/-- The final state of the program: on every device the result gathered and the arguments unchanged; every semaphore zero. -/
def Final : PUnit × MemSt nD τ sig (Elt F) → Prop := fun r =>
  (∀ c : Dev nD, r.2.mem (oLoc c) = OUT m c ∧ r.2.mem (xLoc c) = m (xLoc c) ∧ r.2.mem (iLoc c) = m (iLoc c))
    ∧ r.2.sem = fun _ => 0

/-- From indices in range the program runs to such a state, whatever the float type. -/
theorem run_main [∀ e, Nonempty (Elt F e)] (hpre : PreOK m) :
    θ_run (Cert.KernelIdeal.defs (F := F)) (Cert.KernelIdeal.threads (F := F)) ⟨m, fun _ => 0, ρ⟩ (Final m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m facts hpre)
    (fun q _ => match q with | 0 => SparseCore.Cfg.VecSplit.of_plain (vecSplit m))
    m ρ main (fun _ => iprop(emp)) (fun d => allPts m d (OUT m d)) (u₀ (F := F)) (sep_elim_left.trans (hu₀ m)) (hmain m ρ)
    (fq m) (hfin m) (Final m) (fun _ h hz => ⟨h, hz⟩)

end Cert.Proof.Rows

end
-- ==== Proof.Reference.lean ====
/-
  What the reference computes: `take_along_axis` as it prints, an index below zero moved up by a row's length, the gather
  at the moved index, and a NaN wherever the moved index is outside the row; for indices in range it is the table gathered
  along its rows.
-/
module

public import proofs.«01_k».proof.Proof.Values
public import proofs.«01_k».proof.Proof.Gen.ReferenceIdeal
public import Idealize.ShloMosaic.Lib.ReduceAll

@[expose] public section

noncomputable section

namespace Cert.Proof.Reference

open Cert.ReferenceIdeal Cert.ReferenceIdeal.Gen
open Idealize.ShloMosaic Cert.Proof.Rows

variable {F : FTy → Type} [FloatOps F]

/-- The indices as the reference reads them: one below zero counts from the end of the row. -/
def wrapped (w : S128x32768.Idx → BitVec 32) : S128x32768.Idx → BitVec 32 :=
  select (cmpi .slt w (broadcastInDim S128x32768 ![] bcast_S_S128x32768 (constantI S_ 32 0#32)))
    (addi w (broadcastInDim S128x32768 ![] bcast_S_S128x32768 (constantI S_ 32 32768#32))) w

/-- Those as the gather's start indices, of one component each. -/
def starts (w : S128x32768.Idx → BitVec 32) : S128x32768x1.Idx → BitVec 32 :=
  shapeCast S128x32768x1 (wrapped w) shapeCasts_S128x32768_S128x32768x1

/-- Which start indices name an element of their row. -/
def inside (w : S128x32768.Idx → BitVec 32) : S128x32768x1.Idx → BitVec 1 :=
  andi (cmpi .sge (starts w) (broadcastInDim S128x32768x1 ![] bcast_S_S128x32768x1 (constantI S_ 32 0#32)))
    (cmpi .sle (starts w) (broadcastInDim S128x32768x1 ![0, 1, 2] bcast_S1x1x1_S128x32768x1_0_1_2
      (broadcastInDim S1x1x1 ![2] bcast_S1_S1x1x1_2 (constantI S1 32 32767#32))))

/-- The reference's result. -/
def taken (x : S128x32768.Idx → Elt F .f32) (w : S128x32768.Idx → BitVec 32) : S128x32768.Idx → Elt F .f32 :=
  select (Host.reduce IntOp.andi (inside w) (constantI S_ 1 1#1) reducesTo_S128x32768x1_S128x32768_d2 h_S_)
    (Host.gather gather_S128x32768_S128x32768x1_S128x32768_n_1_0_0_1_2_11 x (starts w))
    (broadcastInDim S128x32768 ![] bcast_S_S128x32768 (constant S_ .f32 0x7FC00000#32))

variable {w : S128x32768.Idx → BitVec 32}

/-- A word below 32768 is itself as a signed number. -/
theorem toInt_of_lt {v : BitVec 32} (h : v.toNat < 32768) : v.toInt = v.toNat := by
  rw [BitVec.toInt_eq_toNat_cond]; split <;> omega

/-- In range nothing is moved. -/
theorem wrapped_eq (hw : ∀ p, (w p).toNat < 32768) : wrapped w = w := by
  funext p
  have h : ¬ IntOp.cmpi .slt (w p) 0#32 = 1#1 := by
    rw [IntOp.cmpi_slt, toInt_of_lt (hw p)]; simp
  show (if IntOp.cmpi .slt (w p) 0#32 = 1#1 then _ else w p) = w p
  exact if_neg h

/-- For indices in range, a start index is the index itself. -/
theorem starts_eq (hw : ∀ p, (w p).toNat < 32768) (i : S128x32768x1.Idx) : starts w i = w (ix2 (i 0) (i 1)) := by
  unfold starts
  rw [wrapped_eq hw]
  simp only [pointwise]

/-- For indices in range, every start index passes the range test. -/
theorem inside_eq (hw : ∀ p, (w p).toNat < 32768) (i : S128x32768x1.Idx) : inside w i = 1#1 := by
  show IntOp.andi (IntOp.cmpi .sge (starts w i) 0#32) (IntOp.cmpi .sle (starts w i) 32767#32) = 1#1
  have h := hw (ix2 (i 0) (i 1))
  rw [starts_eq hw, IntOp.andi_eq_one, IntOp.cmpi_sge, IntOp.cmpi_sle, toInt_of_lt h]
  constructor
  · simp
  · show ((w _).toNat : Int) ≤ 32767
    omega

/-! ## The gather at an index -/

/-- The gather's dimension numbers: the rows are its batches, and the start index names a place along the row. -/
abbrev dims : GatherDims S128x32768 S128x32768x1 S128x32768 := gather_S128x32768_S128x32768x1_S128x32768_n_1_0_0_1_2_11

/-- The start index that result element `j` reads is the one at `j`'s row and column. -/
theorem siCoord_zero (j : S128x32768.Idx) (h : (0 : Fin 3) ∈ dims.siKept) : (dims.siCoord j (0 : Fin 3) h).val = (j 0).val :=
  congrArg (fun b => (j b).val) (show dims.batchDims[dims.siKept.idxOf (0 : Fin 3)]'_ = (0 : Fin 2) by decide +revert)
/-- The gather reads its start index at the result's own column. -/
theorem siCoord_one (j : S128x32768.Idx) (h : (1 : Fin 3) ∈ dims.siKept) : (dims.siCoord j (1 : Fin 3) h).val = (j 1).val :=
  congrArg (fun b => (j b).val) (show dims.batchDims[dims.siKept.idxOf (1 : Fin 3)]'_ = (1 : Fin 2) by decide +revert)
/-- The start index of a result's place lies at that row and column. -/
theorem siIdx_eq (j : S128x32768.Idx) (c : Fin dims.startIndexMap.length) : dims.siIdx j c = ix3 (j 0) (j 1) 0 := by
  funext b
  apply Fin.ext
  unfold GatherDims.siIdx
  match b with
  | 0 => exact siCoord_zero j (by decide)
  | 1 => exact siCoord_one j (by decide)
  | 2 =>
    show c.val = 0
    have h : c.val < 1 := c.isLt
    omega

/-- The gather reads the table's element of the same row at the start index, held to the row. -/
theorem gather_apply (x : S128x32768.Idx → Elt F .f32) (s : S128x32768x1.Idx → BitVec 32) (p : S128x32768.Idx) :
    Host.gather dims x s p = x (ix2 (p 0) ⟨min (s (ix3 (p 0) (p 1) 0)).toInt.toNat 32767, by omega⟩) := by
  unfold Host.gather
  congr 1
  funext a
  apply Fin.ext
  show dims.start p s a + dims.batchCoord p a + dims.offCoord p a = _
  match a with
  | 0 =>
    have hs : dims.start p s 0 = 0 := dims.start_batching p s 0 (by decide)
    have ho : dims.offCoord p 0 = 0 := dims.offCoord_eq_zero p 0 (by decide)
    have hb : dims.batchCoord p 0 = (p 0).val := siCoord_zero p (by decide)
    rw [hs, ho, hb, Nat.zero_add]; rfl
  | 1 =>
    have hs : dims.start p s 1 = min (s (ix3 (p 0) (p 1) 0)).toInt.toNat 32767 := by
      unfold GatherDims.start
      rw [dif_pos (by decide), siIdx_eq]; rfl
    have ho : dims.offCoord p 1 = 0 := dims.offCoord_eq_zero p 1 (by decide)
    have hb : dims.batchCoord p 1 = 0 := dims.batchCoord_eq_zero p 1 (by decide)
    rw [hs, ho, hb]; rfl

/-- For indices in range the reference's result is the table gathered along its rows. -/
theorem taken_eq (x : S128x32768.Idx → Elt F .f32) (hw : ∀ p, (w p).toNat < 32768) : taken x w = gathered x w := by
  funext p
  have h1 : Host.reduce IntOp.andi (inside w) (constantI S_ 1 1#1) reducesTo_S128x32768x1_S128x32768_d2 h_S_ p = 1#1 :=
    Host.reduce_andi_one _ _ _ _ _ rfl (inside_eq hw)
  have h2 : taken x w p = Host.gather dims x (starts w) p := by
    unfold taken select Scalar.select
    rw [h1]
    exact if_pos rfl
  have h := hw p
  have hp : starts w (ix3 (p 0) (p 1) 0) = w p := (starts_eq hw _).trans (congrArg w (funext fun | 0 => rfl | 1 => rfl))
  rw [h2, gather_apply]
  refine congrArg x (congrArg (ix2 (p 0)) (Fin.ext ?_))
  show min (starts w (ix3 (p 0) (p 1) 0)).toInt.toNat 32767 = (w p).toNat % 32768
  rw [hp, toInt_of_lt h, Int.toNat_natCast]
  omega

end Cert.Proof.Reference

end
-- ==== Proof.Precondition.lean ====
/-
  What the claims' precondition says: `in_range` is one exactly of an index array each of whose words lies in a row, and the
  proof needs only that it then does.
-/
module

public import proofs.«01_k».proof.Proof.Launch
public import proofs.«01_k».proof.Defs
public import proofs.«01_k».proof.Proof.Gen.Pre_in_range
public import Idealize.ShloMosaic.Lib.ReduceAll

@[expose] public section

noncomputable section

namespace Cert.Proof.Rows

open Idealize.ShloMosaic

/-- The predicate's result has rank zero, so it has one index. -/
instance : Subsingleton Cert.Pre_in_range.S_.Idx := ⟨fun _ _ => funext fun k => k.elim0⟩

/-- Where the predicate is one, every index is below the length of a row. -/
theorem lt_of_pre {F : FTy → Type} [FloatOps F] (x : FVec F Cert.Pre_in_range.S128x32768 .f32)
    (w : Cert.Pre_in_range.S128x32768.Idx → BitVec 32)
    (h : Cert.Pre_in_range.fn (F := F) x w = fun _ => 1#1) (p : Cert.Pre_in_range.S128x32768.Idx) : (w p).toNat < 32768 := by
  have e := congrFun h (Shape.Idx.first Cert.Pre_in_range.Gen.h_S_)
  have e' := Host.reduce_andi_all _ _ _ _ _ e p
  change IntOp.andi (IntOp.cmpi .sge (w p) 0#32) (IntOp.cmpi .slt (w p) 32768#32) = 1#1 at e'
  rw [IntOp.andi_eq_one, IntOp.cmpi_sge, IntOp.cmpi_slt] at e'
  obtain ⟨h0, h1⟩ := e'
  have k0 : (0#32 : BitVec 32).toInt = 0 := by decide
  have k1 : (32768#32 : BitVec 32).toInt = 32768 := by decide
  have hlt := (w p).isLt
  rw [k0, BitVec.toInt_eq_toNat_cond] at h0
  rw [k1, BitVec.toInt_eq_toNat_cond] at h1
  split at h0 <;> omega

/-- The kernel's precondition gives the run's. -/
theorem ok_of_kernel {m : (ℓ : Loc Cert.Kernel.nD Cert.Kernel.τ Cert.Kernel.sig) → Buf (Elt Bits) ℓ}
    (h : Cert.Pre_Kernel m) : PreOK (F := Bits) m := fun d p => lt_of_pre _ _ (h d) p

/-- So does the ideal kernel's. -/
theorem ok_of_ideal {m : (ℓ : Loc Cert.KernelIdeal.nD Cert.KernelIdeal.τ Cert.KernelIdeal.sig) → Buf (Elt Ideal) ℓ}
    (h : Cert.Pre_KernelIdeal m) : PreOK (F := Ideal) m := fun d p => lt_of_pre _ _ (h d) p

end Cert.Proof.Rows

end
-- ==== Proof.lean ====
/-
  The certificate's claim, put together: the kernel's run (Proof/Launch.lean) under the precondition (Proof/Precondition.lean)
  gives both frames of the kernel; the reference's run gives its own; and the two results are one array, the table gathered
  along its rows (Proof/Reference.lean).
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.Pre_in_range
public import proofs.«01_k».proof.Proof.Launch
public import proofs.«01_k».proof.Proof.Reference
public import proofs.«01_k».proof.Proof.Precondition
public import Idealize.ShloMosaic.Lib.Quiescent

@[expose] public section

noncomputable section

namespace Cert.Proof

open Idealize.ShloMosaic Idealize.SL.Sem Cert.Proof.Rows

/-- The kernel over machine words ends, its arguments unchanged and its counters at zero: it is the ideal kernel's text, and
    the run is proved of that over any floats. -/
theorem frame_kernel : Cert.quiescent_Kernel := fun m ρ hpre =>
  (θ_run Cert.KernelIdeal.defs _ _).mono (fun _ h => ⟨fun c => (h.1 c).2, h.2⟩)
    (run_main (F := Bits) m ρ (ok_of_kernel hpre))

/-- The ideal kernel ends, its arguments unchanged and its counters at zero. -/
theorem frame_ideal : Cert.quiescent_KernelIdeal := fun m ρ hpre =>
  (θ_run Cert.KernelIdeal.defs _ _).mono (fun _ h => ⟨fun c => (h.1 c).2, h.2⟩)
    (run_main (F := Ideal) m ρ (ok_of_ideal hpre))

/-- The reference ends, its arguments unchanged; it has no counters. -/
theorem frame_reference : Cert.quiescent_ReferenceIdeal := fun m ρ _ =>
  (θ_run Cert.ReferenceIdeal.defs _ _).mono
    (fun r h => ⟨fun c => (h c).2, sem_eq_zero_of_no_sems (by decide) r.2⟩)
    (Cert.ReferenceIdeal.Value.run (F := Ideal) m ρ)

/-- On arguments that agree, the ideal kernel and the reference leave the same array: the table gathered along its rows. -/
theorem algebraic : Cert.algebraic_KernelIdeal_ReferenceIdeal := by
  intro m ρ m' ρ' hpre hag
  have hok := ok_of_ideal hpre
  refine ⟨fun c => OUT m c, (θ_run Cert.KernelIdeal.defs _ _).mono (fun _ h => h.1) (run_main (F := Ideal) m ρ hok), ?_⟩
  refine (θ_run Cert.ReferenceIdeal.defs _ _).mono (fun _ h c => ⟨(h c).1.trans ?_, (h c).2⟩)
    (Cert.ReferenceIdeal.Value.run (F := Ideal) m' ρ')
  obtain ⟨hx, hi⟩ := hag c
  exact (congrArg₂ (Reference.taken (F := Ideal)) hx hi).trans (Reference.taken_eq _ (hok c))

theorem claim : Cert.Claim := ⟨Cert.Kernel.Gen.facts, Cert.KernelIdeal.Gen.facts, Cert.ReferenceIdeal.Gen.facts,
  Cert.Pre_in_range.Gen.facts, frame_kernel, frame_ideal, frame_reference, fun m ρ _ => frame_reference m ρ trivial, trivial,
  algebraic⟩

end Cert.Proof

end
